-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4x2048x512 : Shape := ⟨3, ![4, 2048, 512]⟩
abbrev S8192x4096 : Shape := ⟨2, ![8192, 4096]⟩
abbrev S8192x512 : Shape := ⟨2, ![8192, 512]⟩
abbrev S256x4096 : Shape := ⟨2, ![256, 4096]⟩
abbrev S256x512 : Shape := ⟨2, ![256, 512]⟩
abbrev S256x32x128 : Shape := ⟨3, ![256, 32, 128]⟩
abbrev S128x128 : Shape := ⟨2, ![128, 128]⟩
abbrev S256x1024 : Shape := ⟨2, ![256, 1024]⟩
abbrev S256x128 : Shape := ⟨2, ![256, 128]⟩
abbrev S256x128x1 : Shape := ⟨3, ![256, 128, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S8192x4096, .f32⟩
  | .hbm, ⟨3, _⟩ => ⟨S8192x512, .f32⟩
  | .hbm, ⟨4, _⟩ => ⟨S8192x4096, .f32⟩
  | .hbm, ⟨5, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x512, .f32⟩
  | .local _ .vmem, ⟨3, _⟩ => ⟨S256x512, .f32⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x2048x4096 : Shape := ⟨3, ![4, 2048, 4096]⟩
abbrev S4x2048x512 : Shape := ⟨3, ![4, 2048, 512]⟩
abbrev S4x2048x512x8 : Shape := ⟨4, ![4, 2048, 512, 8]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x512x8, .f32⟩
  | .hbm, ⟨3, _⟩ => ⟨S_, .f32⟩
  | .hbm, ⟨4, _⟩ => ⟨S4x2048x512, .f32⟩
  | .hbm, ⟨5, _⟩ => ⟨S_, .f32⟩
  | .hbm, ⟨6, _⟩ => ⟨S4x2048x512, .f32⟩
  | .hbm, ⟨7, _⟩ => ⟨S4x2048x512, .f32⟩
  | .hbm, ⟨8, _⟩ => ⟨S_, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512x8, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Lanes.lean ====
/- The index words of the kernel body. Both integer chains round a lane number down to a group of eight lanes; here
   they are read at an index, as a natural number. -/
module

public import proofs.«01_k».proof.Proof.Gen.KernelIdeal.Skeleton
public import Idealize.ShloMosaic.Lib.Pipeline.Value
public import Idealize.ShloMosaic.Lib.ValueIdxCore

@[expose] public section

noncomputable section

namespace Cert.Pool

open Cert.KernelIdeal Cert.KernelIdeal.Gen Idealize.ShloMosaic Idealize.ShloMosaic.ValueIdx

/-- Rounding down to a group on row 0, one lane at a time. -/
theorem groupWord_row0 : ∀ n : Fin 1024, (k0_pay10 (ix2 (0 : Fin 256) n)).toNat = n.val / 8 := by
  decide +kernel

/-- The gather's index word at lane `l` of the 1024 is `l / 8`, on every row. -/
theorem groupWord (j : S256x1024.Idx) : (k0_pay10 j).toNat = (j 1).val / 8 :=
  groupWord_row0 (j 1)

/-- On row 0 the pooling matrix has its one where the column's group starts at lane 0. -/
theorem poolBit_row (b : Fin 128) : ∀ a : Fin 128, k0_pay6 (ix2 a b) = 1#1 ↔ a.val = 8 * (b.val / 8) := by
  revert b
  decide +kernel

end Cert.Pool

end
-- ==== Proof.Gather.lean ====
/- The relevances spread over their groups. The body gathers them in thirty-two pieces of 128 lanes and lays the pieces end
   to end; lane `l` of the result holds relevance `l / 8` of its row. One lemma reads any piece. -/
module

public import proofs.«01_k».proof.Proof.Lanes

@[expose] public section

noncomputable section

namespace Cert.Pool

open Cert.KernelIdeal Cert.KernelIdeal.Gen Idealize.ShloMosaic Idealize.ShloMosaic.ValueIdx

variable {F : FTy → Type} [FloatOps F]

/-- The gather's index words after the body's wrap of negative words: 128 added where the word is below zero. -/
def wrapped (w : IVec S256x128 32) : IVec S256x128 32 :=
  shapeCast S256x128
    (shapeCast S256x128x1 (select (cmpi .slt w (broadcast S256x128 0#32)) (addi w (broadcast S256x128 128#32)) w)
      shapeCasts_S256x128_S256x128x1) shapeCasts_S256x128x1_S256x128

/-- Words that are small naturals are left alone by the wrap. -/
theorem wrap_small : ∀ n : Fin 128, Scalar.select (IntOp.cmpi .slt (BitVec.ofNat 32 n.val) 0#32)
    (IntOp.addi (BitVec.ofNat 32 n.val) 128#32) (BitVec.ofNat 32 n.val) = BitVec.ofNat 32 n.val := by
  decide +kernel

/-- A word below 128 passes through the wrap. -/
theorem wrapped_apply (w : IVec S256x128 32) (j : S256x128.Idx) (h : (w j).toNat < 128) : wrapped w j = w j := by
  unfold wrapped
  rw [shapeCast_shapeCast]
  have e : w j = BitVec.ofNat 32 (⟨(w j).toNat, h⟩ : Fin 128).val := by simp
  show Scalar.select (IntOp.cmpi .slt (w j) 0#32) (IntOp.addi (w j) 128#32) (w j) = w j
  rw [e]
  exact wrap_small _

/-- Piece `n` reads 128 of the 512 relevances, -/
theorem relevances_inb : ∀ n : Fin 32, S256x512.Slices ![0, 128 * (n.val / 8)] S256x128 := by decide +kernel
/-- at 128 of the 1024 index words. -/
theorem words_inb : ∀ n : Fin 32, S256x1024.Slices ![0, 128 * (n.val % 8)] S256x128 := by decide +kernel

/-- Piece `n` of the gathered relevances: relevance columns `128 (n / 8)` on, index columns `128 (n % 8)` on. -/
def piece (rr : FVec F S256x512 .f32) (n : Fin 32) : FVec F S256x128 .f32 :=
  dynamicGather 1 (extractStridedSlice S256x128 ![0, 128 * (n.val / 8)] rr (relevances_inb n))
    (wrapped (extractStridedSlice S256x128 ![0, 128 * (n.val % 8)] k0_pay10 (words_inb n)))

/-- An index word of piece `n`. -/
theorem word_apply (n : Fin 32) (j : S256x128.Idx) :
    (extractStridedSlice S256x128 ![0, 128 * (n.val % 8)] k0_pay10 (words_inb n) j).toNat
      = (128 * (n.val % 8) + (j 1).val) / 8 := by
  have h0 : (j 0).val < 256 := (j 0).isLt
  have h1 : (j 1).val < 128 := (j 1).isLt
  have e := extractStridedSlice_apply ![0, 128 * (n.val % 8)] k0_pay10 (words_inb n) j
    (ix2 (⟨(j 0).val, h0⟩ : Fin 256) (⟨128 * (n.val % 8) + (j 1).val, by omega⟩ : Fin 1024))
    (fun a => by match a with | ⟨0, _⟩ => exact (Nat.zero_add _).symm | ⟨1, _⟩ => rfl)
  rw [e, groupWord]

/-- Lane `l` of piece `n` holds relevance `16 n + l / 8` of its row. -/
theorem piece_apply (rr : FVec F S256x512 .f32) (n : Fin 32) (j : S256x128.Idx)
    (k : S256x512.Idx) (hk0 : (k 0).val = (j 0).val) (hk1 : (k 1).val = 16 * n.val + (j 1).val / 8) :
    piece rr n j = rr k := by
  have h1 : (j 1).val < 128 := (j 1).isLt
  have hw := word_apply n j
  have hlt : (extractStridedSlice S256x128 ![0, 128 * (n.val % 8)] k0_pay10 (words_inb n) j).toNat < 128 := by omega
  unfold piece dynamicGather
  refine extractStridedSlice_apply _ rr (relevances_inb n) _ k fun a => ?_
  match a with
  | ⟨0, _⟩ => exact hk0.trans (Nat.zero_add _).symm
  | ⟨1, _⟩ =>
    show (k 1).val = 128 * (n.val / 8) + (wrapped _ j).toNat % 128
    rw [wrapped_apply _ j hlt, hw, hk1]
    omega

/-- The pieces as the body names them are the thirty-two values of `piece`. -/
theorem pieces_eq (rr : FVec F S256x512 .f32) :
    ([
     ⟨S256x128, k0_pay11 rr⟩, ⟨S256x128, k0_pay15 (k0_pay12 rr) k0_pay13 k0_pay14 128#32⟩, ⟨S256x128, k0_pay16 rr k0_pay10⟩, ⟨S256x128, k0_pay17 rr k0_pay10⟩,
     ⟨S256x128, k0_pay18 rr k0_pay10⟩, ⟨S256x128, k0_pay19 rr k0_pay10⟩, ⟨S256x128, k0_pay23 (k0_pay20 rr) (k0_pay21 k0_pay10) (k0_pay22 k0_pay10) 128#32⟩, ⟨S256x128, k0_pay24 rr k0_pay10⟩,
     ⟨S256x128, k0_pay25 rr k0_pay10⟩, ⟨S256x128, k0_pay26 rr k0_pay10⟩, ⟨S256x128, k0_pay27 rr k0_pay10⟩, ⟨S256x128, k0_pay31 (k0_pay28 rr) (k0_pay29 k0_pay10) (k0_pay30 k0_pay10) 128#32⟩,
     ⟨S256x128, k0_pay32 rr k0_pay10⟩, ⟨S256x128, k0_pay33 rr k0_pay10⟩, ⟨S256x128, k0_pay34 rr k0_pay10⟩, ⟨S256x128, k0_pay35 rr k0_pay10⟩,
     ⟨S256x128, k0_pay39 (k0_pay36 rr) (k0_pay37 k0_pay10) (k0_pay38 k0_pay10) 128#32⟩, ⟨S256x128, k0_pay40 rr k0_pay10⟩, ⟨S256x128, k0_pay41 rr k0_pay10⟩, ⟨S256x128, k0_pay42 rr k0_pay10⟩,
     ⟨S256x128, k0_pay43 rr k0_pay10⟩, ⟨S256x128, k0_pay47 (k0_pay44 rr) (k0_pay45 k0_pay10) (k0_pay46 k0_pay10) 128#32⟩, ⟨S256x128, k0_pay48 rr k0_pay10⟩, ⟨S256x128, k0_pay49 rr k0_pay10⟩,
     ⟨S256x128, k0_pay50 rr k0_pay10⟩, ⟨S256x128, k0_pay51 rr k0_pay10⟩, ⟨S256x128, k0_pay55 (k0_pay52 rr) (k0_pay53 k0_pay10) (k0_pay54 k0_pay10) 128#32⟩, ⟨S256x128, k0_pay56 rr k0_pay10⟩,
     ⟨S256x128, k0_pay57 rr k0_pay10⟩, ⟨S256x128, k0_pay58 rr k0_pay10⟩, ⟨S256x128, k0_pay59 rr k0_pay10⟩, ⟨S256x128, k0_pay1 (k0_pay60 rr) (k0_pay61 k0_pay10) (k0_pay62 k0_pay10) 128#32⟩] : List ((s : Shape) × (s.Idx → F .f32)))
      = List.ofFn fun n : Fin 32 => (⟨S256x128, piece rr n⟩ : (s : Shape) × (s.Idx → F .f32)) := rfl

/-- The relevances spread over the lanes: lane `l` holds relevance `l / 8` of its row. -/
theorem spread_apply (rr : FVec F S256x512 .f32)
    (h : Shape.Concatenates ((List.ofFn fun n : Fin 32 => (⟨S256x128, piece rr n⟩ : (s : Shape) × (s.Idx → F .f32))).map (·.1))
      S256x4096 1) (j : S256x4096.Idx) (k : S256x512.Idx) (hk0 : (k 0).val = (j 0).val) (hk1 : (k 1).val = (j 1).val / 8) :
    concatenate S256x4096 1 (List.ofFn fun n : Fin 32 => (⟨S256x128, piece rr n⟩ : (s : Shape) × (s.Idx → F .f32))) h j
      = rr k := by
  have h0 : (j 0).val < 256 := (j 0).isLt
  have h1 : (j 1).val < 4096 := (j 1).isLt
  let n : Fin 32 := ⟨(j 1).val / 128, by omega⟩
  let i : S256x128.Idx := ix2 (⟨(j 0).val, h0⟩ : Fin 256) (⟨(j 1).val % 128, Nat.mod_lt _ (by decide)⟩ : Fin 128)
  refine (concatenate_ofFn_apply (t := S256x4096) (s₁ := S256x128) 1 (piece rr) h rfl 128 rfl j n rfl i rfl ?_).trans ?_
  · intro b hb
    match b with
    | ⟨0, _⟩ => rfl
    | ⟨1, _⟩ => exact absurd rfl hb
  · refine piece_apply rr n i k hk0 ?_
    show (k 1).val = 16 * ((j 1).val / 128) + (j 1).val % 128 / 8
    omega

end Cert.Pool

end
-- ==== Proof.Row.lean ====
/- One row of the problem: what the kernel and the reference each compute from a row of 4096 activations and its row
   of 512 relevances, and why the two are equal. Nothing here mentions a program. -/
module

public import Idealize.ShloMosaic.PureOps.Ideal
public import Idealize.ShloMosaic.PureOps.Ideal.Laws
public import Mathlib.Tactic.NormNum

@[expose] public section

noncomputable section

namespace Cert.Pool

open Idealize.ShloMosaic
open scoped BigOperators

/-! ## The literals both programs share -/

/-- The word of `0.125`. -/
theorem eighth_word : Ideal.ofBits .f32 0x3E000000#32 = ((1 / 8 : ℝ) : EReal) := by
  simp [Ideal.ofBits, Ideal.ieee, -EReal.coe_mul]; norm_num

/-- The word of `8.0`. -/
theorem eight_word : Ideal.ofBits .f32 0x41000000#32 = ((8 : ℝ) : EReal) := by
  simp [Ideal.ofBits, Ideal.ieee, -EReal.coe_mul]; norm_num

/-- The word of `1.0`. -/
theorem one_word : Ideal.ofBits .f32 0x3F800000#32 = (1 : EReal) := by
  simp [Ideal.ofBits, Ideal.ieee, -EReal.coe_mul]; norm_num

/-- The word of `0.0`. -/
theorem zero_word : Ideal.ofBits .f32 0x00000000#32 = (0 : EReal) := by
  simp [Ideal.ofBits, Ideal.ieee, -EReal.coe_mul]

/-- The small constant added to every mean: the same word in both programs, its value never needed. -/
abbrev eps : EReal := Ideal.ofBits .f32 0x3727C5AC#32

/-- Dividing by eight is multiplying by an eighth, at the infinities too. -/
theorem div_eight (x : EReal) : Ideal.div x ((8 : ℝ) : EReal) = x * ((1 / 8 : ℝ) : EReal) :=
  Ideal.div_coe (by norm_num) x

/-! ## Groups of eight lanes -/

/-- The pooling group lane `l` belongs to. -/
abbrev grp (l : Fin 4096) : Fin 512 := ⟨l.val / 8, by omega⟩

/-- Lane number `k` of the group lane `l` belongs to. -/
abbrev mate (l : Fin 4096) (k : Fin 8) : Fin 4096 := ⟨8 * (l.val / 8) + k.val, by omega⟩

/-- The sum of the group lane `l` belongs to. -/
def groupSum (x : Fin 4096 → EReal) (l : Fin 4096) : EReal := ∑ k : Fin 8, x (mate l k)

/-! ## The two forms of a row -/

/-- A lane of the kernel's row: the relevance of the lane's group over the group's mean plus the small constant, times
    the activation, times an eighth. -/
def kernelRow (x : Fin 4096 → EReal) (r : Fin 512 → EReal) (l : Fin 4096) : EReal :=
  x l * Ideal.div (r (grp l)) (groupSum x l * ((1 / 8 : ℝ) : EReal) + eps) * ((1 / 8 : ℝ) : EReal)

/-- A lane of the reference's row: the activation times the eighth part of the relevance over the mean plus the small
    constant, both divisions by eight being divisions. -/
def referenceRow (x : Fin 4096 → EReal) (r : Fin 512 → EReal) (l : Fin 4096) : EReal :=
  x l * Ideal.div (Ideal.div (r (grp l)) (Ideal.div (0 + groupSum x l) ((8 : ℝ) : EReal) + eps)) ((8 : ℝ) : EReal)

/-- The two rows are one function, for any activations and relevances. -/
theorem kernelRow_eq_referenceRow (x : Fin 4096 → EReal) (r : Fin 512 → EReal) (l : Fin 4096) :
    kernelRow x r l = referenceRow x r l := by
  unfold kernelRow referenceRow
  rw [div_eight, div_eight, zero_add, mul_assoc]

end Cert.Pool

end
-- ==== Proof.Pooled.lean ====
/- The pooled means. Three rotations of the 128-lane rows add up, at the first lane of each group of eight, the group's
   eight lanes; a product with a matrix of zeros and ones copies that lane over its group. -/
module

public import proofs.«01_k».proof.Proof.Lanes
public import proofs.«01_k».proof.Proof.Row
public import Idealize.ShloMosaic.Lib.KernelVsHost
public import Idealize.ShloMosaic.Lib.ValueIdx
public import Idealize.ShloMosaic.Lib.Pointwise.Contract

@[expose] public section

noncomputable section

namespace Cert.Pool

open Cert.KernelIdeal Cert.KernelIdeal.Gen Idealize.ShloMosaic.ValueIdx
open Idealize.ShloMosaic hiding ix2 ix3
open scoped BigOperators

/-- A rotation along the lanes by `128 - s` reads, at a lane `l` with `l + s < 128`, lane `l + s`. -/
theorem rotate_apply (sh : BitVec 32) (s : ℕ) (hs : sh.toNat = 128 - s) (hs0 : 0 < s) (x : FVec Ideal S256x32x128 .f32)
    (ρ : Fin 256) (p : Fin 32) (l : Fin 128) (l' : Fin 128) (hl : l'.val = l.val + s) :
    dynamicRotate 2 sh none x rotates_S256x32x128_d2 (ix3 ρ p l) = x (ix3 ρ p l') := by
  refine dynamicRotate_apply 2 sh x rotates_S256x32x128_d2 _ _ fun b => ?_
  have h' := l'.isLt
  match b with
  | ⟨0, _⟩ => rfl
  | ⟨1, _⟩ => rfl
  | ⟨2, _⟩ =>
    show l'.val = (l.val + 128 - sh.toNat % 128) % 128
    rw [hs]
    omega

/-- One step of the running sum: a vector plus its rotation by `128 - s`. -/
theorem fold_apply (sh : BitVec 32) (s : ℕ) (hs : sh.toNat = 128 - s) (hs0 : 0 < s) (x : FVec Ideal S256x32x128 .f32)
    (ρ : Fin 256) (p : Fin 32) (l : Fin 128) (l' : Fin 128) (hl : l'.val = l.val + s) :
    addf x (dynamicRotate 2 sh none x rotates_S256x32x128_d2) (ix3 ρ p l) = x (ix3 ρ p l) + x (ix3 ρ p l') := by
  rw [addf_apply, rotate_apply sh s hs hs0 x ρ p l l' hl]

/-- After the three steps the first lane of a group holds the sum of the group's lanes. -/
theorem folded_apply (x : FVec Ideal S256x4096 .f32) (ρ : Fin 256) (p : Fin 32) (g : Fin 16) :
    k0_pay5 (F := Ideal) x (ix3 ρ p (⟨8 * g.val, by omega⟩ : Fin 128))
      = ∑ k : Fin 8, x (ix2 ρ (⟨128 * p.val + 8 * g.val + k.val, by omega⟩ : Fin 4096)) := by
  have read : ∀ l : Fin 128, shapeCast S256x32x128 (k0_pay3 (F := Ideal) x) shapeCasts_S256x4096_S256x32x128 (ix3 ρ p l)
      = x (ix2 ρ (⟨128 * p.val + l.val, by omega⟩ : Fin 4096)) := fun l => by
    unfold k0_pay3
    rw [shapeCast_self]
    refine shapeCast_apply x _ _ _ ?_
    rw [Shape.rowMajor_val_two, Shape.rowMajor_val_three]
    show ρ.val * 4096 + (128 * p.val + l.val) = (ρ.val * 32 + p.val) * 128 + l.val
    omega
  unfold k0_pay5
  dsimp only
  generalize shapeCast S256x32x128 (k0_pay3 (F := Ideal) x) shapeCasts_S256x4096_S256x32x128 = v at read ⊢
  have lane : ∀ k : Fin 8, (8 * g.val + k.val) < 128 := fun k => by omega
  have at4 : ∀ (a b : Fin 128), b.val = a.val + 4 →
      addf v (dynamicRotate 2 124#32 none v rotates_S256x32x128_d2) (ix3 ρ p a) = v (ix3 ρ p a) + v (ix3 ρ p b) :=
    fun a b h => fold_apply 124#32 4 rfl (by decide) v ρ p a b h
  generalize addf v (dynamicRotate 2 124#32 none v rotates_S256x32x128_d2) = v6 at at4 ⊢
  have at2 : ∀ (a b : Fin 128), b.val = a.val + 2 →
      addf v6 (dynamicRotate 2 126#32 none v6 rotates_S256x32x128_d2) (ix3 ρ p a) = v6 (ix3 ρ p a) + v6 (ix3 ρ p b) :=
    fun a b h => fold_apply 126#32 2 rfl (by decide) v6 ρ p a b h
  generalize addf v6 (dynamicRotate 2 126#32 none v6 rotates_S256x32x128_d2) = v8 at at2 ⊢
  have at1 : ∀ (a b : Fin 128), b.val = a.val + 1 →
      addf v8 (dynamicRotate 2 127#32 none v8 rotates_S256x32x128_d2) (ix3 ρ p a) = v8 (ix3 ρ p a) + v8 (ix3 ρ p b) :=
    fun a b h => fold_apply 127#32 1 rfl (by decide) v8 ρ p a b h
  let c : Fin 8 → Fin 128 := fun k => ⟨8 * g.val + k.val, lane k⟩
  have hx : ∀ k : Fin 8, x (ix2 ρ (⟨128 * p.val + 8 * g.val + k.val, by omega⟩ : Fin 4096)) = v (ix3 ρ p (c k)) := fun k => by
    rw [read]
    exact congrArg (fun l => x (ix2 ρ l)) (Fin.ext (Nat.add_assoc _ _ _))
  rw [Finset.sum_congr rfl fun k _ => hx k]
  show addf v8 _ (ix3 ρ p (c 0)) = _
  rw [at1 (c 0) (c 1) rfl, at2 (c 0) (c 2) rfl, at2 (c 1) (c 3) rfl, at4 (c 0) (c 4) rfl, at4 (c 2) (c 6) rfl,
    at4 (c 1) (c 5) rfl, at4 (c 3) (c 7) rfl]
  simp only [Fin.sum_univ_eight]
  ac_rfl

/-- The matrix of zeros and ones: row `a`, column `b` holds one where `a` is the first lane of `b`'s group. -/
theorem poolMatrix_apply (a b : Fin 128) :
    select k0_pay6 (k0_pay7 (F := Ideal)) (k0_pay8 (F := Ideal)) (ix2 a b) = if a.val = 8 * (b.val / 8) then (1 : EReal) else 0 := by
  rw [select_apply]
  show (if k0_pay6 (ix2 a b) = 1#1 then Ideal.ofBits .f32 0x3F800000#32 else Ideal.ofBits .f32 0x00000000#32) = _
  rw [one_word, zero_word]
  simp only [poolBit_row b a]

/-- A product of a vector with the matrix of zeros and ones copies the first lane of each group over the group. -/
theorem pool_matmul_apply (v : FVec Ideal S256x32x128 .f32) (ρ : Fin 256) (p : Fin 32) (l : Fin 128) :
    matmul dot_S256x32x128_S128x128_S256x32x128_2_0_01_1_n_n (some .fp32) v
        (select k0_pay6 (k0_pay7 (F := Ideal)) (k0_pay8 (F := Ideal))) (constant S256x32x128 .f32 0x00000000#32) (ix3 ρ p l)
      = v (ix3 ρ p (⟨8 * (l.val / 8), by omega⟩ : Fin 128)) := by
  refine (Ideal.matmul_apply₁_of dot_S256x32x128_S128x128_S256x32x128_2_0_01_1_n_n (a := 2) rfl (K := 128) rfl v
    (select k0_pay6 (k0_pay7 (F := Ideal)) (k0_pay8 (F := Ideal))) _ (ix3 ρ p l) (fun k => ix3 ρ p k) (fun k => ix2 k l)
    (fun k => by
      funext a; apply Fin.ext
      match a with
      | ⟨0, _⟩ => rfl
      | ⟨1, _⟩ => rfl
      | ⟨2, _⟩ => rfl)
    (fun k => by
      funext a; apply Fin.ext
      match a with
      | ⟨0, _⟩ => rfl
      | ⟨1, _⟩ => rfl)).trans ?_
  rw [constant_apply, zero_word, zero_add,
    Finset.sum_eq_single (⟨8 * (l.val / 8), by omega⟩ : Fin 128)]
  · rw [poolMatrix_apply, if_pos rfl, mul_one]
  · intro k _ hk
    rw [poolMatrix_apply, if_neg fun h => hk (Fin.ext h), mul_zero]
  · intro h
    exact absurd (Finset.mem_univ _) h

/-- The body's mean plus the small constant, at lane `l` of row `ρ`. -/
theorem pooled_apply (x : FVec Ideal S256x4096 .f32) (ρ : Fin 256) (l : Fin 4096) :
    k0_pay9 (k0_pay5 (F := Ideal) x) k0_pay6 (k0_pay7 (F := Ideal)) (k0_pay8 (F := Ideal)) (ix2 ρ l)
      = groupSum (fun l => x (ix2 ρ l)) l * ((1 / 8 : ℝ) : EReal) + eps := by
  have hl := l.isLt
  let p : Fin 32 := ⟨l.val / 128, by omega⟩
  let q : Fin 128 := ⟨l.val % 128, Nat.mod_lt _ (by decide)⟩
  let g : Fin 16 := ⟨l.val % 128 / 8, by omega⟩
  unfold k0_pay9
  rw [addf_apply, mulf_apply]
  rw [shapeCast_apply _ shapeCasts_S256x32x128_S256x4096 (ix2 ρ l) (ix3 ρ p q) (by
    rw [Shape.rowMajor_val_two, Shape.rowMajor_val_three]
    show (ρ.val * 32 + l.val / 128) * 128 + l.val % 128 = ρ.val * 4096 + l.val
    omega)]
  rw [pool_matmul_apply]
  show k0_pay5 (F := Ideal) x (ix3 ρ p (⟨8 * g.val, _⟩ : Fin 128)) * Ideal.ofBits .f32 0x3E000000#32 + eps = _
  rw [folded_apply, eighth_word]
  congr 2
  refine Finset.sum_congr rfl fun k _ => congrArg (fun l => x (ix2 ρ l)) (Fin.ext ?_)
  show 128 * (l.val / 128) + 8 * (l.val % 128 / 8) + k.val = 8 * (l.val / 8) + k.val
  omega

end Cert.Pool

end
-- ==== Proof.Block.lean ====
/- What one run of the kernel body leaves in its result block, read at an index: a lane of the kernel's row. -/
module

public import proofs.«01_k».proof.Proof.Gather
public import proofs.«01_k».proof.Proof.Pooled
public import proofs.«01_k».proof.Proof.Gen.KernelIdeal.Frame

@[expose] public section

noncomputable section

namespace Cert.Pool

open Cert.KernelIdeal Cert.KernelIdeal.Gen Idealize.ShloMosaic.ValueIdx
open Idealize.ShloMosaic hiding ix2 ix3

/-- The body's rectangles start at the block's corner. -/
theorem corner : (![0, 0] : Fin 2 → Nat) = fun _ => 0 := funext fun a => by fin_cases a <;> rfl

/-- A concatenation depends on the list of its pieces alone. -/
theorem concatenate_congr {α : Type} {t : Shape} (a : Fin t.rank) {xs ys : List ((s : Shape) × (s.Idx → α))} (e : xs = ys)
    (h : Shape.Concatenates (xs.map (·.1)) t a) :
    concatenate t a xs h = concatenate t a ys (e ▸ h) := by
  subst e; rfl

/-- Lane `l` of row `ρ` of the block the body leaves. -/
theorem block_apply (x : Vec Ideal S256x4096 .f32) (r : Vec Ideal S256x512 .f32) (ρ : Fin 256) (l : Fin 4096) :
    out0_2 x r (ix2 ρ l) = kernelRow (fun l => x (ix2 ρ l)) (fun w => r (ix2 ρ w)) l := by
  unfold_out out0_2
  rw [View.canon_unit_zero corner]
  rw [show View.ld x r0_0 = x from View.ld_unit_zero corner _ x, concatenate_congr 1 (pieces_eq (k0_pay4 (View.ld r r0_1))),
    show View.ld r r0_1 = r from View.ld_unit_zero corner _ r, show k0_pay4 (F := Ideal) r = r from shapeCast_self _ _]
  unfold k0_pay2
  rw [mulf_apply, mulf_apply, divf_apply, pooled_apply, spread_apply (F := Ideal) r _ (ix2 ρ l) (ix2 ρ (grp l)) rfl rfl]
  show k0_pay3 (F := Ideal) x (ix2 ρ l) * _ * Ideal.ofBits .f32 0x3E000000#32 = _
  rw [eighth_word, show k0_pay3 (F := Ideal) x = x from shapeCast_self _ _]
  rfl

end Cert.Pool

end
-- ==== Proof.Array.lean ====
/- What the kernel's result array holds after the region: every point writes back its 256 rows of one whole-array
   function, and the points cover the 8192 rows. -/
module

public import proofs.«01_k».proof.Proof.Block

@[expose] public section

noncomputable section

namespace Cert.Pool

open Cert.KernelIdeal Cert.KernelIdeal.Gen Idealize.ShloMosaic.ValueIdx Idealize.SL.Sem
open Idealize.ShloMosaic hiding ix2 ix3 eq_ix2 eq_ix3
open Idealize.ShloMosaic.TcCoe
open Idealize.ShloMosaic.Pipeline (Dat)

variable (m : (ℓ : Loc nD τ sig) → Buf (Elt Ideal) ℓ)

/-- The whole result array, row by row, from the two arrays the region reads. -/
def rows (x : FVec Ideal S8192x4096 .f32) (r : FVec Ideal S8192x512 .f32) : FVec Ideal S8192x4096 .f32 :=
  fun i => kernelRow (fun l => x (ix2 (i 0) l)) (fun w => r (ix2 (i 0) w)) (i 1)

/-- Point `t` works on row block `t` of each array, and every block spans its array's columns. -/
theorem index_facts : ∀ t : Fin grid0.N,
    (win0_0.index t 0 = t.val ∧ win0_0.index t 1 = 0) ∧ (win0_1.index t 0 = t.val ∧ win0_1.index t 1 = 0)
      ∧ win0_2.index t 0 = t.val ∧ win0_2.index t 1 = 0 := by
  decide +kernel

/-- Row `ρ` of block `t`, among the 8192 rows. -/
def rowOf (t : Fin grid0.N) (ρ : Fin 256) : Fin 8192 :=
  ⟨t.val * 256 + ρ.val, by have h : t.val < 32 := lt_of_lt_of_eq t.isLt N_0; have := ρ.isLt; omega⟩

/-- Where an element of point `t`'s activation block sits in its array, -/
theorem emb0 (t : Fin grid0.N) (ρ : Fin 256) (l : Fin 4096) : (win0_0.rect t).emb (ix2 ρ l) = ix2 (rowOf t ρ) l := by
  funext a; apply Fin.ext
  match a with
  | ⟨0, _⟩ => exact (win0_0.rect_emb_val t (ix2 ρ l) 0).trans (by rw [(index_facts t).1.1]; rfl)
  | ⟨1, _⟩ => exact (win0_0.rect_emb_val t (ix2 ρ l) 1).trans (by rw [(index_facts t).1.2, Nat.zero_mul, Nat.zero_add]; rfl)
/-- of its relevance block, -/
theorem emb1 (t : Fin grid0.N) (ρ : Fin 256) (w : Fin 512) : (win0_1.rect t).emb (ix2 ρ w) = ix2 (rowOf t ρ) w := by
  funext a; apply Fin.ext
  match a with
  | ⟨0, _⟩ => exact (win0_1.rect_emb_val t (ix2 ρ w) 0).trans (by rw [(index_facts t).2.1.1]; rfl)
  | ⟨1, _⟩ => exact (win0_1.rect_emb_val t (ix2 ρ w) 1).trans (by rw [(index_facts t).2.1.2, Nat.zero_mul, Nat.zero_add]; rfl)
/-- and of its result block. -/
theorem emb2 (t : Fin grid0.N) (ρ : Fin 256) (l : Fin 4096) : (win0_2.rect t).emb (ix2 ρ l) = ix2 (rowOf t ρ) l := by
  funext a; apply Fin.ext
  match a with
  | ⟨0, _⟩ => exact (win0_2.rect_emb_val t (ix2 ρ l) 0).trans (by rw [(index_facts t).2.2.1]; rfl)
  | ⟨1, _⟩ => exact (win0_2.rect_emb_val t (ix2 ρ l) 1).trans (by rw [(index_facts t).2.2.2, Nat.zero_mul, Nat.zero_add]; rfl)

/-- The result array as a function of what the region finds. -/
abbrev result (c : Dev nD) : Buf (Elt Ideal) ((c : Thread nD τ).loc main_v2) := rows (V m c main_v0) (V m c main_v1)

/-- What point `t` writes back is its block of the whole-array function. -/
theorem flushed_eq (c : Dev nD) (t : Fin cfg0.N) :
    (dats m 0 c).flushed 2 t = (win0_2.blk t).view.read (Elt Ideal) (result m c) := by
  show (cfg0.win 2).cut (grid0.coords t) ((dats m 0 c).after 2 t) = _
  rw [after0_2]
  funext (j : S256x4096.Idx)
  obtain ⟨ρ, l, rfl⟩ : ∃ (ρ : Fin 256) (l : Fin 4096), j = ix2 ρ l := ⟨j 0, j 1, eq_ix2 j⟩
  show out0_2 (iblk m c 0 t) (iblk m c 1 t) (ix2 ρ l) = rows (V m c main_v0) (V m c main_v1) ((win0_2.rect t).emb (ix2 ρ l))
  rw [block_apply, emb2]
  have h0 : ∀ l, iblk m c 0 t (ix2 ρ l) = V m c main_v0 (ix2 (rowOf t ρ) l) := fun l =>
    congrArg (V m c main_v0) (emb0 t ρ l)
  have h1 : ∀ w, iblk m c 1 t (ix2 ρ w) = V m c main_v1 (ix2 (rowOf t ρ) w) := fun w =>
    congrArg (V m c main_v1) (emb1 t ρ w)
  exact congrArg₂ (fun x r => kernelRow x r l) (funext h0) (funext h1)

/-- Every row of the result array is in the block of the point its number divided by 256 names. -/
theorem cover (i : S8192x4096.Idx) :
    ∃ t : Fin cfg0.N, (cfg0.win 2).flush t = true ∧ i ∈ ((cfg0.win 2).blk t).view.set := by
  have h0 : (i 0).val < 8192 := (i 0).isLt
  have hN : grid0.N = 32 := N_0
  let t : Fin grid0.N := ⟨(i 0).val / 256, by omega⟩
  let ρ : Fin 256 := ⟨(i 0).val % 256, Nat.mod_lt _ (by decide)⟩
  refine ⟨t, flush0_2 t, ?_⟩
  have e : i = (win0_2.blk t).view.emb (ix2 ρ (i 1)) := by
    refine Eq.trans ?_ (emb2 t ρ (i 1)).symm
    refine (eq_ix2 i).trans (congrArg (fun r => ix2 r (i 1)) (Fin.ext ?_))
    show (i 0).val = (i 0).val / 256 * 256 + (i 0).val % 256
    omega
  rw [e]
  exact (win0_2.blk t).view.emb_mem_set _

/-- The array after the region. -/
theorem array_eq (c : Dev nD) : (dats m 0 c).arrAt 2 cfg0.N = result m c :=
  (dats m 0 c).arrAt_eq_of_cover 2 (result m c) (fun t _ => flushed_eq m c t) cover

end Cert.Pool

end
-- ==== Proof.Run.lean ====
/- The kernel program's run: its result is the array of rows, folded back to the argument's shape, and its arguments are
   unchanged; the result read at an index. -/
module

public import proofs.«01_k».proof.Proof.Array

@[expose] public section

noncomputable section

namespace Cert.Pool

open Cert.KernelIdeal Cert.KernelIdeal.Gen Idealize.ShloMosaic.ValueIdx Idealize.SL.Sem
open Idealize.ShloMosaic hiding ix2 ix3 eq_ix2 eq_ix3
open Idealize.ShloMosaic.TcCoe Idealize.ShloMosaic.StableHlo

variable (m : (ℓ : Loc nD τ sig) → Buf (Elt Ideal) ℓ) (ρ : Dev nD → PrngReg)

/-- The program's result as a function of its two arguments: the batches' rows laid end to end, worked row by row, and
    folded back. -/
def folded (x : FVec Ideal S4x2048x4096 .f32) (r : FVec Ideal S4x2048x512 .f32) : FVec Ideal S4x2048x4096 .f32 :=
  shapeCast S4x2048x4096
    (rows (shapeCast S8192x4096 x shapeCasts_S4x2048x4096_S8192x4096) (shapeCast S8192x512 r shapeCasts_S4x2048x512_S8192x512))
    shapeCasts_S8192x4096_S4x2048x4096

/-- The region finds the activations with their batches laid end to end, -/
theorem activations_eq (c : Dev nD) : V m c main_v0
    = shapeCast S8192x4096 (m ((c : Thread nD τ).loc main_arg0)) shapeCasts_S4x2048x4096_S8192x4096 := by
  show StableHlo.after hostOps0 _ (Proc.devRef .tc main_v0) = _
  after_results <;> rfl
/-- and the relevances likewise. -/
theorem relevances_eq (c : Dev nD) : V m c main_v1
    = shapeCast S8192x512 (m ((c : Thread nD τ).loc main_arg1)) shapeCasts_S4x2048x512_S8192x512 := by
  show StableHlo.after hostOps0 _ (Proc.devRef .tc main_v1) = _
  after_results <;> rfl

/-- The three arrays of the region are three buffers. -/
theorem arrays_injective : Function.Injective (Pipeline.arrRef spec0) := by decide

/-- The operation after the region folds the region's result array back to the argument's shape. -/
theorem tail_eq (c : Dev nD) : Pipeline.afterTail₀ cfgs (dats m) 0 (V0 m) [hostOps1] c main_v3
    = folded (m ((c : Thread nD τ).loc main_arg0)) (m ((c : Thread nD τ).loc main_arg1)) := by
  have e : Pipeline.withArrays spec0 c (V0 m c) (fun w => (dats m 0 c).arrAt w cfg0.N) (Proc.devRef .tc main_v2)
      = result m c :=
    (Pipeline.withArrays_arr spec0 arrays_injective c (V0 m c) (fun w => (dats m 0 c).arrAt w cfg0.N) 2).trans (array_eq m c)
  have h : Pipeline.afterTail₀ cfgs (dats m) 0 (V0 m) [hostOps1] c main_v3
      = shapeCast S4x2048x4096 (Pipeline.withArrays spec0 c (V0 m c) (fun w => (dats m 0 c).arrAt w cfg0.N)
          (Proc.devRef .tc main_v2)) shapeCasts_S8192x4096_S4x2048x4096 := by
    unfold Pipeline.afterTail₀
    show StableHlo.after hostOps1 _ (Proc.devRef .tc main_v3) = _
    after_results <;> rfl
  rw [h, e]
  unfold result folded
  rw [activations_eq, relevances_eq]

/-- The kernel program's run, its result read. -/
theorem kernel_run : θ_run defs (onTc (τ := τ) (main (F := Ideal))) ⟨m, fun _ => 0, ρ⟩ fun r => ∀ c : Dev nD,
    r.2.mem ((c : Thread nD τ).loc main_v3) = folded (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- Lane `l` of row `c` of batch `b` of the result. -/
theorem folded_row (x : FVec Ideal S4x2048x4096 .f32) (r : FVec Ideal S4x2048x512 .f32) (b : Fin 4) (c : Fin 2048)
    (l : Fin 4096) :
    folded x r (ix3 b c l) = kernelRow (fun l => x (ix3 b c l)) (fun w => r (ix3 b c w)) l := by
  let i : Fin 8192 := ⟨b.val * 2048 + c.val, by omega⟩
  unfold folded
  rw [shapeCast_apply _ shapeCasts_S8192x4096_S4x2048x4096 (ix3 b c l) (ix2 i l) (by
    rw [Shape.rowMajor_val_two, Shape.rowMajor_val_three]; rfl)]
  have hx : ∀ l, shapeCast S8192x4096 x shapeCasts_S4x2048x4096_S8192x4096 (ix2 i l) = x (ix3 b c l) := fun l =>
    shapeCast_apply x _ (ix2 i l) (ix3 b c l) (by rw [Shape.rowMajor_val_two, Shape.rowMajor_val_three]; rfl)
  have hr : ∀ w, shapeCast S8192x512 r shapeCasts_S4x2048x512_S8192x512 (ix2 i w) = r (ix3 b c w) := fun w =>
    shapeCast_apply r _ (ix2 i w) (ix3 b c w) (by rw [Shape.rowMajor_val_two, Shape.rowMajor_val_three]; rfl)
  exact congrArg₂ (fun x r => kernelRow x r l) (funext hx) (funext hr)

end Cert.Pool

end
-- ==== Proof.Reference.lean ====
/- The reference read at an index: lane `l` of row `c` of batch `b` is a lane of the reference's row. -/
module

public import proofs.«01_k».proof.Proof.Row
public import proofs.«01_k».proof.Proof.Gen.ReferenceIdeal.Read
public import Idealize.ShloMosaic.Lib.ValueIdxCore
public import Idealize.ShloMosaic.Lib.Quiescent

@[expose] public section

noncomputable section

namespace Cert.Pool

open Cert.ReferenceIdeal Cert.ReferenceIdeal.Gen Cert.ReferenceIdeal.Read Idealize.ShloMosaic.ValueIdx Idealize.SL.Sem
open Idealize.ShloMosaic
open Idealize.ShloMosaic.TcCoe
open scoped BigOperators

/-- The group of lane `l`, among the sums. -/
theorem sum_index (b : Fin 4) (c : Fin 2048) (l : Fin 4096) :
    idx_main_v7 (idx_main_v8 (ix3 b c l)) = ix3 b c (grp l) := by
  funext a
  apply Fin.ext
  have hb := b.isLt
  have hc := c.isLt
  have hl := l.isLt
  match a with
  | ⟨0, _⟩ => show ((b.val * 2048 + c.val) * 4096 + l.val) / 8388608 = b.val; omega
  | ⟨1, _⟩ => show ((b.val * 2048 + c.val) * 4096 + l.val) / 4096 % 2048 = c.val; omega
  | ⟨2, _⟩ => show ((b.val * 2048 + c.val) * 4096 + l.val) / 8 % 512 = l.val / 8; omega

/-- The lanes a sum runs over. -/
theorem lane_index (b : Fin 4) (c : Fin 2048) (l : Fin 4096) (k : Fin 8) :
    idx_main_v0 (idx_main_v1 (ix3 b c (grp l)) k) = ix3 b c (mate l k) := by
  funext a
  apply Fin.ext
  have hb := b.isLt
  have hc := c.isLt
  have hl := l.isLt
  have hk := k.isLt
  match a with
  | ⟨0, _⟩ => show (((b.val * 2048 + c.val) * 512 + l.val / 8) * 8 + k.val) / 8388608 = b.val; omega
  | ⟨1, _⟩ => show (((b.val * 2048 + c.val) * 512 + l.val / 8) * 8 + k.val) / 4096 % 2048 = c.val; omega
  | ⟨2, _⟩ => show (((b.val * 2048 + c.val) * 512 + l.val / 8) * 8 + k.val) % 4096 = 8 * (l.val / 8) + k.val; omega

/-- The reference's result at an index. -/
theorem reference_apply (x0 : FVec Ideal S4x2048x4096 .f32) (x1 : FVec Ideal S4x2048x512 .f32) (b : Fin 4) (c : Fin 2048)
    (l : Fin 4096) :
    val_main_v11 (F := Ideal) x0 x1 (ix3 b c l)
      = referenceRow (fun l => x0 (ix3 b c l)) (fun w => x1 (ix3 b c w)) l := by
  rw [val_main_v11_apply, val_main_v10_apply, val_main_v8_apply, val_main_v7_apply, sum_index, val_main_v6_apply,
    val_main_v5_apply, val_main_v3_apply, val_main_v1_apply, val_main_v2_apply, val_main_v4_apply, val_main_v9_apply,
    val_main_cst_apply, val_main_cst_0_apply, val_main_cst_1_apply, val_main_cst_2_apply]
  simp only [val_main_v0_apply, lane_index]
  simp only [Ideal.mulf_def, Ideal.hostDivf_def, Ideal.addf_def, Ideal.ofBits_def, eight_word, zero_word]
  rfl

/-- The reference's claim about its ends: arguments unchanged, and no semaphore counts anything. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun r h => ⟨fun c => ⟨(h c).2.1, (h c).2.2⟩, sem_eq_zero_of_no_sems (by decide) r.2⟩)
    (Cert.ReferenceIdeal.Value.run (F := Ideal) m ρ)

end Cert.Pool

end
-- ==== Proof.Claims.lean ====
/- The claims: the two programs' results are equal at every index, and the runs that hold them. -/
module

public import proofs.«01_k».proof.Defs
public import proofs.«01_k».proof.Proof.Run
public import proofs.«01_k».proof.Proof.Reference
public import proofs.«01_k».proof.Proof.Gen.Kernel.Frame

@[expose] public section

noncomputable section

namespace Cert.Pool

open Idealize.ShloMosaic.ValueIdx Idealize.SL.Sem
open Idealize.ShloMosaic hiding ix2 ix3 eq_ix2 eq_ix3
open Idealize.ShloMosaic.TcCoe

/-- The kernel's result is the reference's, for any activations and relevances. -/
theorem folded_eq_reference (x : FVec Ideal Cert.KernelIdeal.S4x2048x4096 .f32) (r : FVec Ideal Cert.KernelIdeal.S4x2048x512 .f32) :
    Cert.ReferenceIdeal.Read.val_main_v11 (F := Ideal) x r = folded x r := by
  funext (j : Cert.KernelIdeal.S4x2048x4096.Idx)
  obtain ⟨b, c, l, rfl⟩ : ∃ (b : Fin 4) (c : Fin 2048) (l : Fin 4096), j = ix3 b c l := ⟨j 0, j 1, j 2, eq_ix3 j⟩
  rw [folded_row, kernelRow_eq_referenceRow]
  exact reference_apply x r b c l

/-- The kernel runs and leaves its arguments alone. -/
theorem frame_kernel : Cert.quiescent_Kernel := fun m ρ _ => Cert.Kernel.Gen.frame m ρ

/-- So does the kernel read over the extended reals. -/
theorem frame_kernelIdeal : Cert.quiescent_KernelIdeal := fun m ρ _ => Cert.KernelIdeal.Gen.frame m ρ

/-- So does the reference. -/
theorem frame_referenceIdeal : Cert.quiescent_ReferenceIdeal := fun m ρ _ => reference_frame m ρ

/-- Both programs end with the same result. -/
theorem algebraic : Cert.algebraic_KernelIdeal_ReferenceIdeal := by
  intro m ρ m' ρ' _ hagree
  refine ⟨fun c => folded (m ((c : Thread Cert.KernelIdeal.nD Cert.KernelIdeal.τ).loc Cert.KernelIdeal.main_arg0)) (m ((c : Thread Cert.KernelIdeal.nD Cert.KernelIdeal.τ).loc Cert.KernelIdeal.main_arg1)),
    kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (folded_eq_reference _ _)

end Cert.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The certificate: the three frames, that the ideal program is the kernel's own, and that kernel and reference compute
    one function over the extended reals. -/
theorem claim : Cert.Claim := ⟨Cert.Kernel.Gen.facts, Cert.KernelIdeal.Gen.facts, Cert.ReferenceIdeal.Gen.facts,
  Cert.Pool.frame_kernel, Cert.Pool.frame_kernelIdeal, Cert.Pool.frame_referenceIdeal, trivial, Cert.Pool.algebraic⟩

end Cert.Proof

end
